-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x4096 : Shape := ⟨2, ![16384, 4096]⟩
abbrev S64x4096 : Shape := ⟨2, ![64, 4096]⟩
abbrev S_ : Shape := ⟨0, ![]⟩

class Facts : Prop where
  bcast_S_S16384x4096 : S_.BroadcastsInDim S16384x4096 (![] : Fin 0 → Fin S16384x4096.rank)
  bcast_S_S64x4096 : S_.BroadcastsInDim S64x4096 (![] : Fin 0 → Fin S64x4096.rank)

variable [Facts]

def fn {F : FTy → Type} [FloatOps F] (main_arg0 : FVec F S16384x4096 .f32) (main_arg1 : FVec F S64x4096 .f32) : IVec S16384x4096 1 × IVec S64x4096 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_v3 : FVec F S64x4096 .f32 := Host.absf main_arg1
  let main_cst_0 : FVec F S_ .f32 := constant S_ .f32 0x7F800000#32
  let main_v4 : FVec F S64x4096 .f32 := broadcastInDim S64x4096 ![] bcast_S_S64x4096 main_cst_0
  let main_v5 : IVec S64x4096 1 := cmpf .olt main_v3 main_v4
  (main_v2, main_v5)
-- ==== Kernel.lean ====
abbrev S16384x4096 : Shape := ⟨2, ![16384, 4096]⟩
abbrev S64x4096 : Shape := ⟨2, ![64, 4096]⟩
abbrev S16384 : Shape := ⟨1, ![16384]⟩
abbrev S3x1024x4096 : Shape := ⟨3, ![3, 1024, 4096]⟩
abbrev S3 : Shape := ⟨1, ![3]⟩
abbrev S1 : Shape := ⟨1, ![1]⟩
abbrev S_ : Shape := ⟨0, ![]⟩
abbrev S1x1024x4096 : Shape := ⟨3, ![1, 1024, 4096]⟩
abbrev S1024x4096 : Shape := ⟨2, ![1024, 4096]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S1x1024 : Shape := ⟨2, ![1, 1024]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S16384, .f32⟩
  | .hbm, ⟨3, _⟩ => ⟨S16384, .i32⟩
  | .local _ .vmem, ⟨0, _⟩ => ⟨S64x4096, .f32⟩
  | .local _ .vmem, ⟨1, _⟩ => ⟨S16384, .f32⟩
  | .local _ .vmem, ⟨2, _⟩ => ⟨S16384, .i32⟩
  | .local _ .vmem, ⟨3, _⟩ => ⟨S3x1024x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384, .f32⟩
  | .hbm, ⟨25, _⟩ => ⟨S16384x64, .i32⟩
  | .hbm, ⟨26, _⟩ => ⟨S_, .f32⟩
  | .hbm, ⟨27, _⟩ => ⟨S_, .i32⟩
  | .hbm, ⟨28, _⟩ => ⟨S16384, .f32⟩
  | .hbm, ⟨29, _⟩ => ⟨S16384, .i32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.Setup.lean ====
/- The set-up of the router kernel's launch, read at any float semantics: the names the body's run is stated over
   (the staging buffers, the three-slot ring, the array left in HBM, the three DMA counters) and the invariant the
   region keeps, conjunct by conjunct. -/
module

public import proofs.«01_k».proof.Proof.Gen.KernelIdeal.Frame
public import proofs.«01_k».proof.Proof.Gen.KernelIdeal.Skeleton

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main is the region alone, at the algebra that carries the body's own transfers. -/
theorem hmain_own (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The weight window's staging buffer holds its block at the point, whatever the proof data, once its array is the
    launched one and the body leaves the block in place. -/
theorem before_weights {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weights' staging memref at the point. -/
abbrev msW (t : Fin cfg0.N) : Memref sig .tc .vmem S64x4096 .f32 := win0_0.stage (cfg0.slots t 0)
/-- The staging memref of the routing weights at the point. -/
abbrev msP (t : Fin cfg0.N) : Memref sig .tc .vmem S16384 .f32 := win0_1.stage (cfg0.slots t 1)
/-- The staging memref of the expert indices at the point. -/
abbrev msI (t : Fin cfg0.N) : Memref sig .tc .vmem S16384 .i32 := win0_2.stage (cfg0.slots t 2)
/-- The three-slot ring, a scratch buffer of the kernel's. -/
abbrev ring : Memref sig .tc .vmem S3x1024x4096 .f32 := Memref.whole cc0_scratch0
/-- The tokens, left in HBM. -/
abbrev tokens : Memref sig .tc .hbm S16384x4096 .f32 := Memref.whole main_arg0
/-- A memref's buffer on core `c`: the type of its contents. -/
abbrev HBuf (c : Dev nD) {sp : Space} {S : Shape} {e : EltTy} (M : Memref sig .tc sp S e) : Type := Buf (Elt F) (M.view.loc (c : Thread nD τ))
/-- A memref's buffer on core `c` held whole at `f`. -/
abbrev hPt (c : Dev nD) {sp : Space} {S : Shape} {e : EltTy} (M : Memref sig .tc sp S e) (f : HBuf (F := F) c M) : sProp 𝕄 :=
  M.view.loc (c : Thread nD τ) ↦{fullShare} f

/-- The kernel's own DMA counters, one for each ring slot. -/
abbrev osem : Fin 3 → SemLoc sig := fun j => (![SemLoc.dma 3, SemLoc.dma 4, SemLoc.dma 5] : Fin 3 → SemLoc sig) j
theorem osemFacts : Pipeline.OwnSemFacts spec0 osem := by decide
/-- The counters at zero, listed. -/
theorem osems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 3) 0 ∗ semVal ((c : Thread nD τ), SemLoc.dma 4) 0 ∗ semVal ((c : Thread nD τ), SemLoc.dma 5) 0) := by
  rw [Pipeline.ownSems0_eq_of_list c osem [0, 1, 2] (by decide) (by decide)]; rfl
/-- The one array the body copies out of HBM itself. -/
def HX : Finset (Ref sig .tc) := {main_arg0}
theorem HX_sub : HX ⊆ Pipeline.restRefs sig spec0 := by decide
/-- That array held at its launched contents. -/
theorem hbm_eq (c : Dev nD) :
    (bigSep HX (fun b => ((c : Thread nD τ).loc b) ↦{fullShare} V m c b) : sProp 𝕄) = iprop(hPt c tokens (V m c main_arg0)) := by
  rw [BI.bigSep_eq_bigSepL_of_eq [main_arg0] (by decide) (by decide)]; rfl

/-- The region's invariant, conjunct by conjunct: the ring at some contents, the generator register at some state, the
    counters at zero, the tokens as launched. -/
theorem Phi_eq (c : Dev nD) :
    (Pipeline.ΦD osem spec0 HX (V m) c : sProp 𝕄)
      = iprop(iprop((∃ d, owns (c : Thread nD τ) ring fullShare d)) ∗ (∃ r, prngReg c r) ∗ iprop(semVal ((c : Thread nD τ), SemLoc.dma 3) 0 ∗ semVal ((c : Thread nD τ), SemLoc.dma 4) 0 ∗ semVal ((c : Thread nD τ), SemLoc.dma 5) 0) ∗ iprop(hPt c tokens (V m c main_arg0))) := by
  rw [Pipeline.ΦD_eq, scopedRest0_eq, osems_eq, hbm_eq]; simp only [ring, owns_whole]; try rfl

end Cert.KernelIdeal.Router

end
-- ==== Proof.Spec.lean ====
/- What the router kernel computes, written as functions of the values it reads: the logits of one chunk of 1024 tokens,
   the six-level tournament over the 64 experts, and the two results of the whole array, at any float semantics. -/
module

public import proofs.«01_k».proof.Proof.Setup

@[expose] public section

set_option maxRecDepth 16384

noncomputable section

namespace Cert.KernelIdeal.Router

open Idealize.ShloMosaic Idealize.ShloMosaic.TcCoe Cert.KernelIdeal Cert.KernelIdeal.Gen

/-- `n` experts' rows of one chunk of 1024 tokens. -/
abbrev Rows (n : ℕ) : Shape := ⟨2, ![n, 1024]⟩

section Levels

variable {F : FTy → Type} [FloatOps F] {n k : ℕ}
variable (lo : (Rows n).Slices ![0, 0] (Rows k)) (hi : (Rows n).Slices ![k, 0] (Rows k))

/-- The first `k` rows. -/
abbrev fore {α : Type} (v : (Rows n).Idx → α) : (Rows k).Idx → α := extractStridedSlice (Rows k) ![0, 0] v lo
/-- The `k` rows from row `k` on. -/
abbrev aft {α : Type} (v : (Rows n).Idx → α) : (Rows k).Idx → α := extractStridedSlice (Rows k) ![k, 0] v hi

/-- One level of the tournament on the values: of row `r` and row `r + k`, the larger. -/
abbrev winner (v : FVec F (Rows n) .f32) : FVec F (Rows k) .f32 :=
  select (cmpf .ogt (aft hi v) (fore lo v)) (aft hi v) (fore lo v)

/-- The same level on the experts' numbers: the winner's number, on a tie the smaller of the two. -/
abbrev winnerIx (v : FVec F (Rows n) .f32) (ix : IVec (Rows n) 32) : IVec (Rows k) 32 :=
  select (cmpf .oeq (aft hi v) (fore lo v)) (minsi (fore lo ix) (aft hi ix))
    (select (cmpf .ogt (aft hi v) (fore lo v)) (aft hi ix) (fore lo ix))

/-- One level of the sum: row `r` plus row `r + k`. -/
abbrev pairSum (v : FVec F (Rows n) .f32) : FVec F (Rows k) .f32 := addf (fore lo v) (aft hi v)

end Levels

section Chunk

variable {F : FTy → Type} [FloatOps F]

/-- The tournament's values after each level, from 64 experts down to one. -/
abbrev best32 (l : FVec F S64x1024 .f32) : FVec F S32x1024 .f32 := winner slices_S64x1024_o0_0_S32x1024 slices_S64x1024_o32_0_S32x1024 l
abbrev best16 (l : FVec F S64x1024 .f32) : FVec F S16x1024 .f32 := winner slices_S32x1024_o0_0_S16x1024 slices_S32x1024_o16_0_S16x1024 (best32 l)
abbrev best8 (l : FVec F S64x1024 .f32) : FVec F S8x1024 .f32 := winner slices_S16x1024_o0_0_S8x1024 slices_S16x1024_o8_0_S8x1024 (best16 l)
abbrev best4 (l : FVec F S64x1024 .f32) : FVec F S4x1024 .f32 := winner slices_S8x1024_o0_0_S4x1024 slices_S8x1024_o4_0_S4x1024 (best8 l)
abbrev best2 (l : FVec F S64x1024 .f32) : FVec F S2x1024 .f32 := winner slices_S4x1024_o0_0_S2x1024 slices_S4x1024_o2_0_S2x1024 (best4 l)
def best1 (l : FVec F S64x1024 .f32) : FVec F S1x1024 .f32 := winner slices_S2x1024_o0_0_S1x1024 slices_S2x1024_o1_0_S1x1024 (best2 l)

/-- The tournament's winners after each level. -/
abbrev who64 : IVec S64x1024 32 := iota .tc S64x1024 32 [0] iota_S64x1024_d0_w32
abbrev who32 (l : FVec F S64x1024 .f32) : IVec S32x1024 32 := winnerIx slices_S64x1024_o0_0_S32x1024 slices_S64x1024_o32_0_S32x1024 l who64
abbrev who16 (l : FVec F S64x1024 .f32) : IVec S16x1024 32 := winnerIx slices_S32x1024_o0_0_S16x1024 slices_S32x1024_o16_0_S16x1024 (best32 l) (who32 l)
abbrev who8 (l : FVec F S64x1024 .f32) : IVec S8x1024 32 := winnerIx slices_S16x1024_o0_0_S8x1024 slices_S16x1024_o8_0_S8x1024 (best16 l) (who16 l)
abbrev who4 (l : FVec F S64x1024 .f32) : IVec S4x1024 32 := winnerIx slices_S8x1024_o0_0_S4x1024 slices_S8x1024_o4_0_S4x1024 (best8 l) (who8 l)
abbrev who2 (l : FVec F S64x1024 .f32) : IVec S2x1024 32 := winnerIx slices_S4x1024_o0_0_S2x1024 slices_S4x1024_o2_0_S2x1024 (best4 l) (who4 l)
def who1 (l : FVec F S64x1024 .f32) : IVec S1x1024 32 := winnerIx slices_S2x1024_o0_0_S1x1024 slices_S2x1024_o1_0_S1x1024 (best2 l) (who2 l)

/-- The sum of 64 rows, folded in halves. -/
def total (v : FVec F S64x1024 .f32) : FVec F S1x1024 .f32 :=
  pairSum slices_S2x1024_o0_0_S1x1024 slices_S2x1024_o1_0_S1x1024 <|
  pairSum slices_S4x1024_o0_0_S2x1024 slices_S4x1024_o2_0_S2x1024 <|
  pairSum slices_S8x1024_o0_0_S4x1024 slices_S8x1024_o4_0_S4x1024 <|
  pairSum slices_S16x1024_o0_0_S8x1024 slices_S16x1024_o8_0_S8x1024 <|
  pairSum slices_S32x1024_o0_0_S16x1024 slices_S32x1024_o16_0_S16x1024 <|
  pairSum slices_S64x1024_o0_0_S32x1024 slices_S64x1024_o32_0_S32x1024 v

/-- The exponentials of a chunk's logits less each token's largest. -/
def expo (l : FVec F S64x1024 .f32) : FVec F S64x1024 .f32 :=
  exp (subf l (broadcastTo S64x1024 (best1 l) broadcasts_S1x1024_S64x1024))

/-- A chunk's routing weights from its logits. -/
def weightOf (l : FVec F S64x1024 .f32) : FVec F S1024 .f32 :=
  divf (broadcast S1024 (Scalar.ofBits .f32 0x3F800000#32)) (shapeCast S1024 (total (expo l)) shapeCasts_S1x1024_S1024)

/-- A chunk's expert numbers from its logits. -/
def expertOf (l : FVec F S64x1024 .f32) : IVec S1024 32 := shapeCast S1024 (who1 l) shapeCasts_S1x1024_S1024

/-- A chunk's logits: the experts' weight rows against the chunk's tokens. -/
def logitsOf (w : Vec F S64x4096 .f32) (x : Vec F S1024x4096 .f32) : FVec F S64x1024 .f32 :=
  matmul dot_S64x4096_S1024x4096_S64x1024_1_1_0_0_n_n none w x (constant S64x1024 .f32 0x00000000#32)

end Chunk

section Whole

/-- Token `1024 * i + j`. -/
abbrev tokenIx (i : Fin 16) (j : Fin 1024) : Fin 16384 := ⟨1024 * i.val + j.val, by omega⟩

variable {F : FTy → Type} [FloatOps F]

/-- Chunk `i` of the tokens. -/
def chunk (x : Vec F S16384x4096 .f32) (i : Fin 16) : Vec F S1024x4096 .f32 := fun j => x (fun a => match a with
  | 0 => tokenIx i (j 0)
  | 1 => j 1)

/-- The chunk a token lies in, and its place there. -/
abbrev chunkNo (t : S16384.Idx) : Fin 16 := ⟨(t 0).val / 1024, by have : (t 0).val < 16384 := (t 0).isLt; omega⟩
abbrev place (t : S16384.Idx) : S1024.Idx := fun a => match a with | 0 => ⟨(t 0).val % 1024, Nat.mod_lt _ (by decide)⟩

/-- The kernel's first result: every token's routing weight. -/
def outWeight (w : Vec F S64x4096 .f32) (x : Vec F S16384x4096 .f32) : Vec F S16384 .f32 :=
  fun t => weightOf (logitsOf w (chunk x (chunkNo t))) (place t)

/-- The kernel's second result: every token's expert. -/
def outExpert (w : Vec F S64x4096 .f32) (x : Vec F S16384x4096 .f32) : Vec F S16384 .i32 :=
  fun t => expertOf (logitsOf w (chunk x (chunkNo t))) (place t)

end Whole

end Cert.KernelIdeal.Router

end
-- ==== Proof.Slots.lean ====
/- The kernel's memory, read back: one slot of the three-slot ring after copies into the slots, and one result array
   after its sixteen stores of 1024 elements. Each fact is stated once, for every slot and every chunk. -/
module

public import proofs.«01_k».proof.Proof.Spec
public import Idealize.ShloMosaic.Lib.WritesUnit
public import Idealize.ShloMosaic.Lib.Pipeline.Value

@[expose] public section

set_option maxRecDepth 16384

noncomputable section

namespace Cert.KernelIdeal.Router

open Idealize.ShloMosaic Idealize.ShloMosaic.TcCoe Cert.KernelIdeal Cert.KernelIdeal.Gen

variable {Val : EltTy → Type}

/-- Slot `k` of the ring, read as a block, after a copy of `v` into that slot: `v`. -/
theorem slot_same (M : Memref sig .tc .vmem S3x1024x4096 .f32) (r : Rect S3x1024x4096) (hr : ∀ a, r.stride a = 1)
    (hq : r.shape.Squeezes S1024x4096) (hc : r.shape.ShapeCasts S1024x4096) (f : M.view.ty.Contents Val) (v : S1024x4096.Idx → Val .f32) :
    shapeCast S1024x4096 (M.view.readAt Val r.toLoadRect (((M.slice r hr).squeeze S1024x4096 hq).view.write Val f v Finset.univ)) hc = v :=
  (Memref.read_squeeze_slice M r hr hq hc _).symm.trans (View.read_write_univ _ _)

/-- Slot `k` of the ring after a copy into another slot `k'`: as before. -/
theorem slot_other (M : Memref sig .tc .vmem S3x1024x4096 .f32) {k k' : ℕ} (hk : k ≠ k')
    (inb : ∀ a, (![k, 0, 0] : Fin 3 → ℕ) a + S1x1024x4096.size a ≤ S3x1024x4096.size a)
    (inb' : ∀ a, (![k', 0, 0] : Fin 3 → ℕ) a + S1x1024x4096.size a ≤ S3x1024x4096.size a)
    (hr : ∀ a, (Rect.unit (s := S3x1024x4096) ![k', 0, 0] S1x1024x4096.size inb').stride a = 1)
    (hq : (Rect.unit (s := S3x1024x4096) ![k', 0, 0] S1x1024x4096.size inb').shape.Squeezes S1024x4096)
    (f : M.view.ty.Contents Val) (v : S1024x4096.Idx → Val .f32) :
    M.view.readAt Val (Rect.unit (s := S3x1024x4096) ![k, 0, 0] S1x1024x4096.size inb).toLoadRect
        (((M.slice (Rect.unit (s := S3x1024x4096) ![k', 0, 0] S1x1024x4096.size inb') hr).squeeze S1024x4096 hq).view.write Val f v Finset.univ)
      = M.view.readAt Val (Rect.unit (s := S3x1024x4096) ![k, 0, 0] S1x1024x4096.size inb).toLoadRect f := by
  funext j
  show M.view.read Val _ _ = M.view.read Val f _
  rw [View.read_apply, View.read_apply, View.write_of_not_mem]
  intro hm
  obtain ⟨x, -, hx⟩ := Finset.mem_map.mp hm
  have h0 := congrArg (fun i : S3x1024x4096.Idx => (i 0).val) (M.view.emb.injective hx)
  have hl : (Shape.reshapeEquiv hq.numel_eq x 0).val < 1 := (Shape.reshapeEquiv hq.numel_eq x 0).isLt
  have hj : (j 0).val < 1 := (j 0).isLt
  have ha : k' + 1 * (Shape.reshapeEquiv hq.numel_eq x 0).val = k + 1 * (j 0).val := h0
  omega

/-- A slot's place in the ring. -/
abbrev slotRect (k : ℕ) (inb : ∀ a, (![k, 0, 0] : Fin 3 → ℕ) a + S1x1024x4096.size a ≤ S3x1024x4096.size a) : Rect S3x1024x4096 :=
  Rect.unit (s := S3x1024x4096) ![k, 0, 0] S1x1024x4096.size inb

/-- The ring's contents after a copy of `v` into slot `k`. -/
abbrev fill (M : Memref sig .tc .vmem S3x1024x4096 .f32) (k : ℕ) (inb : ∀ a, (![k, 0, 0] : Fin 3 → ℕ) a + S1x1024x4096.size a ≤ S3x1024x4096.size a)
    (hr : ∀ a, (slotRect k inb).stride a = 1) (hq : (slotRect k inb).shape.Squeezes S1024x4096)
    (f : M.view.ty.Contents Val) (v : S1024x4096.Idx → Val .f32) : M.view.ty.Contents Val :=
  ((M.slice (slotRect k inb) hr).squeeze S1024x4096 hq).view.write Val f v Finset.univ

/-- Slot `k` after a copy into it and later copies into one other slot, -/
theorem slot_after_one (M : Memref sig .tc .vmem S3x1024x4096 .f32) {k k₁ : ℕ} (h₁ : k ≠ k₁) (inb inb₁) (hr hr₁ hq hq₁) (hc)
    (f : M.view.ty.Contents Val) (v v₁ : S1024x4096.Idx → Val .f32) :
    shapeCast S1024x4096 (M.view.readAt Val (slotRect k inb).toLoadRect (fill M k₁ inb₁ hr₁ hq₁ (fill M k inb hr hq f v) v₁)) hc = v :=
  (congrArg (fun z => shapeCast S1024x4096 z hc) (slot_other M h₁ inb inb₁ hr₁ hq₁ _ v₁)).trans (slot_same M _ hr hq hc f v)

/-- and into two other slots: still what was copied into it. -/
theorem slot_after_two (M : Memref sig .tc .vmem S3x1024x4096 .f32) {k k₁ k₂ : ℕ} (h₁ : k ≠ k₁) (h₂ : k ≠ k₂) (inb inb₁ inb₂) (hr hr₁ hr₂ hq hq₁ hq₂) (hc)
    (f : M.view.ty.Contents Val) (v v₁ v₂ : S1024x4096.Idx → Val .f32) :
    shapeCast S1024x4096 (M.view.readAt Val (slotRect k inb).toLoadRect
      (fill M k₂ inb₂ hr₂ hq₂ (fill M k₁ inb₁ hr₁ hq₁ (fill M k inb hr hq f v) v₁) v₂)) hc = v :=
  (congrArg (fun z => shapeCast S1024x4096 z hc) (slot_other M h₂ inb inb₂ hr₂ hq₂ _ v₂)).trans
    (slot_after_one M h₁ inb inb₁ hr hr₁ hq hq₁ hc f v v₁)

/-- The weights' memref, held at `x`, read whole: `x`. -/
theorem weights_read {M : Memref sig .tc .vmem S64x4096 .f32} (h : M.IsWhole) (x : S64x4096.Idx → Val .f32)
    (inb : ∀ a, (![0, 0] : Fin 2 → ℕ) a + S64x4096.size a ≤ S64x4096.size a) :
    M.view.readAt Val (Rect.unit (s := S64x4096) ![0, 0] S64x4096.size inb).toLoadRect (h.unread x) = x := by
  funext j
  refine (congrFun (h.read_unread x) _).trans (congrArg x ?_)
  funext a
  refine Fin.ext ?_
  fin_cases a
  · show 0 + 1 * (j 0).val = (j 0).val
    omega
  · show 0 + 1 * (j 1).val = (j 1).val
    omega

/-- A result array after one more store of 1024 elements at `1024 * n`: where it already agreed with `G` below
    `1024 * n`, and the stored values are `G`'s, it agrees below `1024 * (n + 1)`. -/
theorem tile_step {e : EltTy} (v : View sig .tc .vmem S16384 e) (f : v.ty.Contents Val) (G : S16384.Idx → Val e) (n : ℕ)
    {off : Fin 1 → ℕ} (inb : ∀ a, off a + S1024.size a ≤ S16384.size a) (w : S1024.Idx → Val e) (L : List (View.Piece Val S16384 e))
    (hoff : off = ![1024 * n]) (hw : ∀ (t : S16384.Idx) (j : S1024.Idx), (t 0).val = 1024 * n + (j 0).val → w j = G t)
    (hL : ∀ t : S16384.Idx, (t 0).val < 1024 * n → v.read Val (v.writes Val f L) t = G t) :
    ∀ t : S16384.Idx, (t 0).val < 1024 * (n + 1) →
      v.read Val (v.writes Val f (⟨Rect.unit off S1024.size inb, w⟩ :: L)) t = G t := by
  intro t ht
  by_cases h : (t 0).val < 1024 * n
  · rw [View.read_writes_cons_unit_of_not_mem v f inb w L t hoff 0 (Or.inl h)]
    exact hL t h
  · have hlt : (t 0).val - 1024 * n < 1024 := by omega
    let x : S1024.Idx := fun a => match a with | 0 => ⟨(t 0).val - 1024 * n, hlt⟩
    refine (View.read_writes_cons_unit_of_mem v f inb w L t x hoff ?_).trans ?_
    · intro a; fin_cases a
      show (t 0).val = 1024 * n + ((t 0).val - 1024 * n)
      omega
    · refine hw t _ ?_
      show (t 0).val = 1024 * n + ((t 0).val - 1024 * n)
      omega

section Floats

variable {F : FTy → Type} [FloatOps F]

/-- A copy out of the tokens at row `1024 * i` carries chunk `i`. -/
theorem copy_chunk (c : Dev nD) (x : HBuf (F := F) c tokens) (i : Fin 16) {off : Fin 2 → ℕ} (inb : ∀ a, off a + S1024x4096.size a ≤ S16384x4096.size a)
    (hs : ∀ a, (Rect.unit (s := S16384x4096) off S1024x4096.size inb).stride a = 1) (hoff : off = ![1024 * i.val, 0]) :
    ReadAs.same.apply (View.read (Elt F) ((Memref.whole main_arg0).slice (Rect.unit (s := S16384x4096) off S1024x4096.size inb) hs).view x) = chunk x i := by
  subst hoff
  funext j
  show x _ = x _
  congr 1
  funext a
  refine Fin.ext ?_
  fin_cases a
  · show 1024 * i.val + 1 * (j 0).val = 1024 * i.val + (j 0).val
    omega
  · show 0 + 1 * (j 1).val = (j 1).val
    omega

/-- Token `1024 * n + j` has the weight that chunk `n` gives place `j`. -/
theorem outWeight_tile (w : Vec F S64x4096 .f32) (x : Vec F S16384x4096 .f32) (n : Fin 16) {p : S1024.Idx → Elt F .f32}
    (hp : p = weightOf (logitsOf w (chunk x n))) (t : S16384.Idx) (j : S1024.Idx) (h : (t 0).val = 1024 * n.val + (j 0).val) :
    p j = outWeight w x t := by
  have hj : (j 0).val < 1024 := (j 0).isLt
  have hn : chunkNo t = n := Fin.ext (by show (t 0).val / 1024 = n.val; omega)
  have hj : place t = j := by funext a; fin_cases a; refine Fin.ext ?_; show (t 0).val % 1024 = (j 0).val; omega
  rw [hp, outWeight, hn, hj]

/-- Token `1024 * n + j` has the expert that chunk `n` gives place `j`. -/
theorem outExpert_tile (w : Vec F S64x4096 .f32) (x : Vec F S16384x4096 .f32) (n : Fin 16) {p : S1024.Idx → Elt F .i32}
    (hp : p = expertOf (logitsOf w (chunk x n))) (t : S16384.Idx) (j : S1024.Idx) (h : (t 0).val = 1024 * n.val + (j 0).val) :
    p j = outExpert w x t := by
  have hj : (j 0).val < 1024 := (j 0).isLt
  have hn : chunkNo t = n := Fin.ext (by show (t 0).val / 1024 = n.val; omega)
  have hj : place t = j := by funext a; fin_cases a; refine Fin.ext ?_; show (t 0).val % 1024 = (j 0).val; omega
  rw [hp, outExpert, hn, hj]

end Floats

end Cert.KernelIdeal.Router

end
-- ==== Proof.Body.lean ====
/- The body of the router kernel, run on any staging memrefs: the two results end at `outWeight` and `outExpert` of the
   weights and the tokens, the tokens and the counters as they were. -/
module

public import proofs.«01_k».proof.Proof.Slots

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The outputs' final contents, once every one of the sixteen stores is known. -/
theorem all_read {e : EltTy} (M : Memref sig .tc .vmem S16384 e) (f : M.view.ty.Contents (Elt F)) (L : List (View.Piece (Elt F) S16384 e))
    (G : S16384.Idx → Elt F e) (h : ∀ t : S16384.Idx, (t 0).val < 1024 * (15 + 1) → M.view.read (Elt F) (M.view.writes (Elt F) f L) t = G t) :
    M.view.read (Elt F) (M.view.writes (Elt F) f L) = G :=
  funext fun t => h t (t 0).isLt

-- (the run's proof term is large: checking it walks past the default budget)
set_option maxHeartbeats 4000000 in set_option sl_exec.dmaWindow true in set_option sl_exec.dmaWindowSet true in
/-- The body's triple: the weights' memref at `x0`, the tokens at `fh0`, the results at anything, the ring at anything and
    its counters at zero; it ends with the results at `outWeight x0 fh0` and `outExpert x0 fh0` and the rest as it was. -/
theorem run (c : Dev nD) (arg1 : Memref sig .tc .vmem S64x4096 .f32) (harg1 : arg1.IsWhole) (arg2 : Memref sig .tc .vmem S16384 .f32) (harg2 : arg2.IsWhole) (arg3 : Memref sig .tc .vmem S16384 .i32) (harg3 : arg3.IsWhole) (arg4 : Memref sig .tc .vmem S3x1024x4096 .f32) (harg4 : arg4.IsWhole)
    (x0 : Vec F S64x4096 .f32) (fh0 : HBuf (F := F) c tokens) :
      ∀ (W : Waits sig Unit) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
            ∗ semVal ((c : Thread nD τ), SemLoc.dma 3) 0 ∗ semVal ((c : Thread nD τ), SemLoc.dma 4) 0 ∗ semVal ((c : Thread nD τ), SemLoc.dma 5) 0 ∗ hPt c tokens fh0 ∗ owes (c : Thread nD τ) 0 W
            ∗ (iprop(owns (c : Thread nD τ) arg1 fullShare x0 ∗ owns (c : Thread nD τ) arg2 fullShare (outWeight x0 fh0) ∗ owns (c : Thread nD τ) arg3 fullShare (outExpert x0 fh0) ∗ (∃ d, owns (c : Thread nD τ) arg4 fullShare d)
            ∗ semVal ((c : Thread nD τ), SemLoc.dma 3) 0 ∗ semVal ((c : Thread nD τ), SemLoc.dma 4) 0 ∗ semVal ((c : Thread nD τ), SemLoc.dma 5) 0 ∗ hPt c tokens fh0 ∗ (∃ W', owes (c : Thread nD τ) 0 W')) -∗ K ⟨⟩))
          ⊢ wp frame (wpE (defs₀ (F := F)) Variants.none c none) Set.univ (cc0__router_kernel (Memref.whole main_arg0) (Memref.isWhole_whole _) arg1 harg1 arg2 harg2 arg3 harg3 arg4 harg4 cc0_scratch1) K := by
  intro W K
  simp only [cc0__router_kernel_eq_skeleton]; unfold cc0__router_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
  unfold owns
  iintro ⟨⟨%f0, %hf0, H0⟩, ⟨%d1, %f1, -, H1⟩, ⟨%d2, %f2, -, H2⟩, ⟨%ds0, %fs0, -, HS0⟩, Hq0, Hq1, Hq2, Hh0, HW, Hk⟩
  obtain rfl := harg1.eq_unread hf0
  sl_exec
  sl_step
  have hw : run.sl.r c arg1 harg1 x0 = x0 := weights_read harg1 x0 _
  -- what the body reads from the ring, chunk by chunk
  let ld : Fin 16 → Vec F S1x1024x4096 .f32 := ![run.sl.v21 c arg4 fh0 fs0, run.sl.v122 c arg4 fh0 fs0, run.sl.v223 c arg4 fh0 fs0, run.sl.v324 c arg4 fh0 fs0, run.sl.v425 c arg4 fh0 fs0, run.sl.v526 c arg4 fh0 fs0, run.sl.v627 c arg4 fh0 fs0, run.sl.v728 c arg4 fh0 fs0, run.sl.v829 c arg4 fh0 fs0, run.sl.v930 c arg4 fh0 fs0, run.sl.v1031 c arg4 fh0 fs0, run.sl.v1132 c arg4 fh0 fs0, run.sl.v1233 c arg4 fh0 fs0, run.sl.v1334 c arg4 fh0 fs0, run.sl.v1430 c arg4 fh0 fs0, run.sl.v1526 c arg4 fh0 fs0]
  have hx : ∀ i : Fin 16, shapeCast S1024x4096 (ld i) shapeCasts_S1x1024x4096_S1024x4096 = chunk fh0 i := by
    intro i
    fin_cases i
    -- two later copies into other slots are under way when chunks 0 to 13 are read, one for chunk 14, none for chunk 15
    iterate 14 exact (slot_after_two arg4 (by decide) (by decide) _ _ _ _ _ _ _ _ _ _ _ _ _ _).trans (copy_chunk c fh0 _ _ _ rfl)
    · exact (slot_after_one arg4 (by decide) _ _ _ _ _ _ _ _ _ _).trans (copy_chunk c fh0 _ _ _ rfl)
    · exact (slot_same arg4 _ _ _ _ _ _).trans (copy_chunk c fh0 _ _ _ rfl)
  have hl : ∀ i : Fin 16, logitsOf (run.sl.r c arg1 harg1 x0) (shapeCast S1024x4096 (ld i) shapeCasts_S1x1024x4096_S1024x4096) = logitsOf x0 (chunk fh0 i) :=
    fun i => by rw [hx i, hw]
  iapply Hk
  isplitl [H0]
  · iexists _; isplitr; · ipureintro; exact harg1.read_unread _
    iexact H0
  isplitl [H1]
  · iexists _; isplitr; swap; · iexact H1
    ipureintro
    refine all_read _ _ _ _ ?_
    iterate 16
      refine tile_step _ _ _ _ _ _ _ rfl (outWeight_tile x0 fh0 ⟨_, by decide⟩ (Eq.trans ?_ (congrArg weightOf (hl _)))) ?_
      · rfl
    exact fun t h => absurd h (Nat.not_lt_zero _)
  isplitl [H2]
  · iexists _; isplitr; swap; · iexact H2
    ipureintro
    refine all_read _ _ _ _ ?_
    iterate 16
      refine tile_step _ _ _ _ _ _ _ rfl (outExpert_tile x0 fh0 ⟨_, by decide⟩ (Eq.trans ?_ (congrArg expertOf (hl _)))) ?_
      · rfl
    exact fun t h => absurd h (Nat.not_lt_zero _)
  isplitl [HS0]
  · iexists _, _; isplitr; swap; · iexact HS0
    ipureintro; rfl
  isplitl [Hq0]; · iexact Hq0
  isplitl [Hq1]; · iexact Hq1
  isplitl [Hq2]; · iexact Hq2
  isplitl [Hh0]; · iexact Hh0
  iexists _; iexact HW

end Cert.KernelIdeal.Router

end
-- ==== Proof.Launch.lean ====
/- The router kernel's launch: from any memory with zero counters it terminates with every counter at zero again, the two
   results at `outWeight` and `outExpert` of the arguments and the arguments as launched. -/
module

public import proofs.«01_k».proof.Proof.Body
public import Idealize.ShloMosaic.Lib.Claim
public import Idealize.ShloMosaic.Lib.Pipeline.ValueKit

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The launch's proof data: the weights' buffer keeps its block, the results' buffers end at the two functions of the
    weights and the tokens. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outWeight (iblk m c 0 t) (V m c main_arg0)
    | ⟨2, _⟩ => outExpert (iblk m c 0 t) (V m c main_arg0)
  Φ _ := Pipeline.ΦD osem spec0 HX (V m) c
  q _ := fullShare
  owed _ := 0

theorem A_eq (c : Dev nD) (w : Fin cfg0.W) : (dats m 0 c).A w = V m c (Pipeline.arrRef spec0 w) := by dsimp only [dats]

/-- What the body leaves in each window's buffer. -/
theorem after_weights (c : Dev nD) (t : Fin cfg0.N) : (dats m 0 c).after 0 t = iblk m c 0 t := by dsimp only [dats]
theorem after_first (c : Dev nD) (t : Fin cfg0.N) : (dats m 0 c).after 1 t = outWeight (iblk m c 0 t) (V m c main_arg0) := by dsimp only [dats]
theorem after_second (c : Dev nD) (t : Fin cfg0.N) : (dats m 0 c).after 2 t = outExpert (iblk m c 0 t) (V m c main_arg0) := by dsimp only [dats]

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (msW t) fullShare ((dats m 0 c).before 0 t d))
    ∗ (∃ d, owns (c : Thread nD τ) (msP t) fullShare ((dats m 0 c).before 1 t d))
    ∗ (∃ d, owns (c : Thread nD τ) (msI t) fullShare ((dats m 0 c).before 2 t d)))

/-- And what it returns. -/
def bodyPost (c : Dev nD) (t : Fin cfg0.N) : sProp 𝕄 :=
  iprop((dats m 0 c).Φ t.succ ∗ (dats m 0 c).owesAt () t.succ
    ∗ owns (c : Thread nD τ) (msW t) fullShare ((dats m 0 c).after 0 t)
    ∗ owns (c : Thread nD τ) (msP t) fullShare ((dats m 0 c).after 1 t)
    ∗ owns (c : Thread nD τ) (msI t) fullShare ((dats m 0 c).after 2 t))

/-- The body at the point: `run` at the weights' block and the launched tokens, the invariant handing over the ring, the
    counters and the tokens and taking them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_weights m (dats m 0 c) (A_eq m c 0) (after_weights m c), after_weights, after_first, after_second]
  rw [show (dats m 0 c).Φ t.succ = Pipeline.ΦD osem spec0 HX (V m) c from rfl,
    show (dats m 0 c).Φ t.castSucc = Pipeline.ΦD osem spec0 HX (V m) c from rfl, Phi_eq]
  unfold Dat.owesAt Pipeline.owesWithin
  rw [show (dats m 0 c).owed t.castSucc = 0 from rfl, show (dats m 0 c).owed t.succ = 0 from rfl]
  iintro ⟨⟨HS0, Hg, ⟨Hq0, Hq1, Hq2⟩, Hh0⟩, ⟨%W, -, HW⟩, ⟨%d0, H0⟩, ⟨%d1, H1⟩, ⟨%d2, H2⟩⟩
  iapply ((run c _ _ _ _ _ _ _ _ (iblk m c 0 t) (V m c main_arg0)) W _)
  isplitl [H0]; · iexact H0
  isplitl [H1]; · iexists _; iexact H1
  isplitl [H2]; · iexists _; iexact H2
  isplitl [HS0]; · iexact HS0
  isplitl [Hq0]; · iexact Hq0
  isplitl [Hq1]; · iexact Hq1
  isplitl [Hq2]; · iexact Hq2
  isplitl [Hh0]; · iexact Hh0
  isplitl [HW]; · iexact HW
  iintro ⟨H0, H1, H2, HS0, Hq0, Hq1, Hq2, Hh0, ⟨%W', HW'⟩⟩
  isplitl [HS0 Hg Hq0 Hq1 Hq2 Hh0]
  · isplitl [HS0]; · iexact HS0
    isplitl [Hg]; · iexact Hg
    isplitl [Hq0 Hq1 Hq2]
    · isplitl [Hq0]; · iexact Hq0
      isplitl [Hq1]; · iexact Hq1
      iexact Hq2
    iexact Hh0
  isplitl [HW']
  · iexists W'; isplitr; · ipureintro; exact fun _ _ => Or.inl trivial
    iexact HW'
  isplitl [H0]; · iexact H0
  isplitl [H1]; · iexact H1
  iexact H2

/-- The body table's row at the point is the body. -/
theorem body_row (t : Fin cfg0.N) : defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch runs to the frame's post, every counter back at zero. -/
theorem launched : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osemFacts HX HX_sub m ρ main
    (hbody := fun c => (body_obligation m c).loose) (hshare := fun c => (dats m 0 c).share_full fun _ => rfl)
    (howed := fun _ _ => rfl) (V := V m) (hmain := hmain_own m Variants.none) (hA := A_eq m) (hin := fun _ => .rfl) (hout := fun _ => .rfl)

/-- The weights' block at the grid's one point is the whole array. -/
theorem weights_block (c : Dev nD) : iblk m c 0 t0_0 = V m c main_arg1 := by
  unfold iblk
  funext j
  blk_simp
  refine congrArg (V m c main_arg1) (funext fun a => Fin.ext ?_)
  match a with
  | 0 => blk_simp; rw [show win0_0.index t0_0 0 = 0 by decide +kernel]; omega
  | 1 => blk_simp; rw [show win0_0.index t0_0 1 = 0 by decide +kernel]; omega

/-- The first result's array after the launch. -/
theorem first_final (c : Dev nD) : (dats m 0 c).arrAt 1 (Fin.last cfg0.N) = outWeight (V m c main_arg1) (V m c main_arg0) := by
  refine (dats m 0 c).arrAt_eq_of_after_last 1 t0_0 (by decide +kernel) _ fun j => ?_
  blk_simp
  rw [after_first, weights_block]

/-- The second result's array after the launch. -/
theorem second_final (c : Dev nD) : (dats m 0 c).arrAt 2 (Fin.last cfg0.N) = outExpert (V m c main_arg1) (V m c main_arg0) := by
  refine (dats m 0 c).arrAt_eq_of_after_last 2 t0_0 (by decide +kernel) _ fun j => ?_
  blk_simp
  rw [after_second, weights_block]

/-- The kernel's run: it terminates, the results are the two functions of the arguments, the arguments are unchanged and
    every counter is zero. -/
theorem computed : θ_run defs (onTc (τ := τ) (main (F := F))) ⟨m, fun _ => 0, ρ⟩ (fun r => (∀ c : Dev nD,
      r.2.mem ((c.tc : Thread nD τ).loc main_v0_0) = outWeight (m ((c.tc : Thread nD τ).loc main_arg1)) (m ((c.tc : Thread nD τ).loc main_arg0))
      ∧ r.2.mem ((c.tc : Thread nD τ).loc main_v0_1) = outExpert (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 1).trans (first_final m c), ((h.1 c).1 2).trans (second_final m c),
      ((h.1 c).2 main_arg0 (Pipeline.mem_restRefs_of main_arg0 (by decide) (by decide))).trans (V_main_arg0 m c),
      ((h.1 c).1 0).trans (((dats m 0 c).arrAt_in 0 rfl _).trans ((A_eq m c 0).trans (V_main_arg1 m c)))⟩, h.2⟩) (launched m ρ)

end Cert.KernelIdeal.Router

end
-- ==== Proof.Same.lean ====
/- The kernel and the kernel to be read at the ideal instance are one program: nothing was rewritten, so their texts agree, at any
   float semantics. What is proved of the one holds of the other. -/
module

public import proofs.«01_k».proof.Proof.Gen.Kernel
public import proofs.«01_k».proof.Proof.Launch

@[expose] public section

noncomputable section

namespace Cert.Kernel.Router

open Idealize.ShloMosaic Idealize.SL.Sem

variable {F : FTy → Type} [FloatOps F]

/-- The kernels' bodies are the same. -/
theorem bodies_same : Cert.Kernel.defs₀ (F := F) = Cert.KernelIdeal.defs₀ (F := F) := by
  unfold Cert.Kernel.defs₀ Cert.KernelIdeal.defs₀
  refine congrArg Defs.onTc (funext fun l => ?_)
  match l with
  | 0 => rfl

/-- The bodies and the pipelines that call them are the same. -/
theorem defs_same : Cert.Kernel.defs (F := F) = Cert.KernelIdeal.defs (F := F) :=
  congrArg (Pipeline.defs Cert.Kernel.pcfgs) bodies_same

/-- The kernel runs, its arguments unchanged, every counter zero at the end. -/
theorem quiescent (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same]
  exact (θ_run _ _ _).mono (fun _ h => ⟨fun c => (h.1 c).2.2, h.2⟩) (Cert.KernelIdeal.Router.computed (F := F) m ρ)

end Cert.Kernel.Router

end
-- ==== Proof.Reference.lean ====
/- The reference's run: what its straight line of array operations leaves in its two results, and that the arguments and the
   counters are as at the start. At any float semantics. -/
module

public import proofs.«01_k».proof.Proof.Gen.ReferenceIdeal
public import Idealize.ShloMosaic.Adequacy
public import Idealize.ShloMosaic.Init
public import Idealize.ShloMosaic.Lib.Claim

@[expose] public section

noncomputable section

namespace Cert.ReferenceIdeal.Router

open Idealize.ShloMosaic Idealize.SL.Sem Idealize.ShloMosaic.StableHlo Cert.ReferenceIdeal Cert.ReferenceIdeal.Gen

variable {F : FTy → Type} [FloatOps F]

/-- Every token against every expert. -/
def logits (x : FVec F S16384x4096 .f32) (w : FVec F S64x4096 .f32) : FVec F S16384x64 .f32 :=
  Host.dotGeneral dot_S16384x4096_S4096x64_S16384x64_1_0_0_1_n_n none x (transpose S4096x64 [1, 0] w transposes_S64x4096_S4096x64_1_0)

/-- The largest of each token's 64 values. -/
def rowMax (l : FVec F S16384x64 .f32) : FVec F S16384 .f32 :=
  Host.reduce FloatOps.maximumf l (constant S_ .f32 0xFF800000#32) reducesTo_S16384x64_S16384_d1 h_S_

/-- One value a token, set against each of its 64 experts. -/
def spread (v : FVec F S16384 .f32) : FVec F S16384x64 .f32 :=
  broadcastInDim S16384x64 ![0, 1] bcast_S16384x1_S16384x64_0_1 (broadcastInDim S16384x1 ![0] bcast_S16384_S16384x1_0 v)

/-- The logits less each token's largest. -/
def shifted (l : FVec F S16384x64 .f32) : FVec F S16384x64 .f32 := subf l (spread (rowMax l))

/-- The exponentials inside the softmax, which takes the largest off once more. -/
def expos (s : FVec F S16384x64 .f32) : FVec F S16384x64 .f32 :=
  Host.exp (subf s (spread (maximumf (broadcastInDim S16384 ![] bcast_S_S16384 (constant S_ .f32 0xFF800000#32)) (rowMax s))))

/-- The softmax. -/
def probs (l : FVec F S16384x64 .f32) : FVec F S16384x64 .f32 :=
  Host.divf (expos (shifted l)) (spread (Host.reduceAdd (expos (shifted l)) (constant S_ .f32 0x00000000#32) reducesTo_S16384x64_S16384_d1 h_S_))

/-- The expert of the largest probability. -/
def pick (p : FVec F S16384x64 .f32) : IVec S16384 32 := fun j =>
  (Host.argReduce reducer_argmax_f32_i32 p (iotaInDim S16384x64 32 1) (constant S_ .f32 0xFF800000#32) (constantI S_ 32 0#32) reducesTo_S16384x64_S16384_d1 h_S_ j).2

/-- A line followed by the bare return is that line. -/
theorem isSeq_ends {nD : ℕ} {τ : Topo} {sig : RefSig} {Val : EltTy → Type} {Λ : Labels} {p : Prog (TpuEff nD τ sig Val Λ .tc) PUnit}
    {l : List (HloOp τ sig Val)} (h : IsSeq p l) : IsSeq (p >>= fun _ => pure ⟨⟩) l := by
  unfold IsSeq at h ⊢; rw [h]; exact bind_pure _

set_option maxHeartbeats 1600000 in
/-- The reference's run: it terminates, its results are each token's largest probability and that probability's expert, the
    arguments are unchanged. -/
theorem ran (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v17) = rowMax (probs (logits (m ((c.tc : Thread nD τ).loc main_arg0)) (m ((c.tc : Thread nD τ).loc main_arg1))))
      ∧ r.2.mem ((c.tc : Thread nD τ).loc main_v18) = pick (probs (logits (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (run_hlo _ _ (by
    intro d
    unfold main
    iterate 23 apply IsSeq.cons
    apply isSeq_ends
    unfold fn_argmax.body
    iterate 5 apply IsSeq.cons
    exact IsSeq.nil) (by decide) (by decide) (by simp) (by intro _ h; (repeat (cases h with | head => rfl | tail _ h => ?_)); exact nomatch h) m ρ) ?_
  intro r h c
  refine ⟨?_, ?_, ?_, ?_⟩
  · rw [h c]; after_results; rfl
  · rw [h c]; after_results; rfl
  · rw [h c]; after_results
  · rw [h c]; after_results

end Cert.ReferenceIdeal.Router

end
-- ==== Proof.Leader.lean ====
/- The expert a token is routed to, as mathematics: of 64 extended reals the first that is the largest. What a maximum, an
   order-keeping change of the values and a softmax make of it. -/
module

public import Idealize.ShloMosaic.PureOps
public import Idealize.ShloMosaic.PureOps.Ideal

@[expose] public section

noncomputable section

namespace Cert.Leader

open Idealize.ShloMosaic

/-- `e` is the first expert whose value is the largest. -/
def First (p : Fin 64 → EReal) (e : Fin 64) : Prop := ∀ a : Fin 64, p a ≤ p e ∧ (p a = p e → e ≤ a)

/-- There is at most one such expert. -/
theorem First.unique {p : Fin 64 → EReal} {e e' : Fin 64} (h : First p e) (h' : First p e') : e = e' := by
  have q : p e = p e' := le_antisymm (h' e).1 (h e').1
  exact le_antisymm ((h e').2 q.symm) ((h' e).2 q)

/-- It depends on the order of the values alone. -/
theorem First.of_order {p q : Fin 64 → EReal} (hpq : ∀ a b, p a ≤ p b ↔ q a ≤ q b) {e : Fin 64} (h : First p e) : First q e :=
  fun a => ⟨(hpq a e).1 (h a).1, fun he => (h a).2 (le_antisymm (h a).1 ((hpq e a).2 he.ge))⟩

/-- A maximum from −∞ over the 64 values is the value at an expert no value exceeds. -/
theorem fold_max {p : Fin 64 → EReal} {e : Fin 64} (h : ∀ a, p a ≤ p e) : Finset.univ.fold max ⊥ p = p e :=
  le_antisymm ((Finset.fold_max_le _).2 ⟨bot_le, fun a _ => h a⟩) ((Finset.le_fold_max _).2 (Or.inr ⟨e, Finset.mem_univ _, le_rfl⟩))

/-- The softmax's denominator, as a real number: positive. -/
def mass (r : Fin 64 → ℝ) (e : Fin 64) : ℝ := ∑ a, Real.exp (r a - r e)

theorem mass_pos (r : Fin 64 → ℝ) (e : Fin 64) : 0 < mass r e :=
  Finset.sum_pos (fun _ _ => Real.exp_pos _) ⟨0, Finset.mem_univ _⟩

/-- A sum of reals, read as extended reals, is the sum read so. -/
theorem coe_sum {ι : Type} (s : Finset ι) (r : ι → ℝ) : ((∑ a ∈ s, r a : ℝ) : EReal) = ∑ a ∈ s, (r a : EReal) := by
  classical
  induction s using Finset.induction_on with
  | empty => simp
  | insert a s ha ih => rw [Finset.sum_insert ha, Finset.sum_insert ha, EReal.coe_add, ih]

/-- The sum of exponentials of real logits less a real is that denominator. -/
theorem sum_exp (r : Fin 64 → ℝ) (e : Fin 64) : ∑ a, Ideal.exp ((r a : EReal) - (r e : EReal)) = (mass r e : EReal) := by
  unfold mass
  rw [coe_sum]
  exact Finset.sum_congr rfl fun a _ => by rw [← EReal.coe_sub, Ideal.exp_coe]

/-- One probability of the softmax of real logits, the logits less the `e`-th. -/
def prob (L : Fin 64 → EReal) (e a : Fin 64) : EReal := Ideal.div (Ideal.exp (L a - L e)) (∑ b, Ideal.exp (L b - L e))

theorem prob_real (r : Fin 64 → ℝ) (e a : Fin 64) :
    prob (fun a => (r a : EReal)) e a = ((Real.exp (r a - r e) / mass r e : ℝ) : EReal) := by
  unfold prob
  simp only [sum_exp]
  rw [← EReal.coe_sub, Ideal.exp_coe, Ideal.div_coe (mass_pos r e).ne', ← EReal.coe_mul, mul_one_div]

/-- Real logits and their softmax are in the same order. -/
theorem prob_order (r : Fin 64 → ℝ) (e a b : Fin 64) :
    (r a : EReal) ≤ (r b : EReal) ↔ prob (fun a => (r a : EReal)) e a ≤ prob (fun a => (r a : EReal)) e b := by
  rw [prob_real, prob_real, EReal.coe_le_coe_iff, EReal.coe_le_coe_iff, div_le_div_iff_of_pos_right (mass_pos r e), Real.exp_le_exp,
    sub_le_sub_iff_right]

/-- The probability at the leader is one over the sum of exponentials. -/
theorem prob_self (r : Fin 64 → ℝ) (e : Fin 64) :
    prob (fun a => (r a : EReal)) e e = Ideal.div 1 (∑ b, Ideal.exp ((r b : EReal) - (r e : EReal))) := by
  unfold prob
  rw [← EReal.coe_sub, sub_self, Ideal.exp_coe, Real.exp_zero, EReal.coe_one]

/-- No probability of real logits is −∞. -/
theorem prob_ne_bot (r : Fin 64 → ℝ) (e a : Fin 64) : prob (fun a => (r a : EReal)) e a ≠ ⊥ := by
  rw [prob_real]; exact EReal.coe_ne_bot _

end Cert.Leader

end
-- ==== Proof.Tournament.lean ====
/- The kernel's tournament at the ideal instance: six levels halve the 64 experts down to the first that is the largest, and
   the folded sum is the sum over the 64 experts. One lemma for a level, applied at each. -/
module

public import proofs.«01_k».proof.Proof.Spec
public import proofs.«01_k».proof.Proof.Leader
public import Idealize.ShloMosaic.Lib.Pointwise

@[expose] public section

noncomputable section

namespace Cert.KernelIdeal.Router

open Idealize.ShloMosaic Cert.KernelIdeal Cert.KernelIdeal.Gen Cert.Leader

section Level

variable {n k : ℕ} (hn : n = k + k)
variable (lo : (Rows n).Slices ![0, 0] (Rows k)) (hi : (Rows n).Slices ![k, 0] (Rows k))

include hn in
/-- Row `r` of the first half is row `r`. -/
theorem fore_at {α : Type} (v : (Rows n).Idx → α) (r : Fin k) (j : Fin 1024) : fore lo v (ix2 r j) = v (ix2 ⟨r.val, by omega⟩ j) :=
  congrArg v (funext fun a => Fin.ext (by
    match a with
    | 0 => exact Nat.zero_add _
    | 1 => exact Nat.zero_add _))

include hn in
/-- Row `r` of the second half is row `k + r`. -/
theorem aft_at {α : Type} (v : (Rows n).Idx → α) (r : Fin k) (j : Fin 1024) : aft hi v (ix2 r j) = v (ix2 ⟨k + r.val, by omega⟩ j) :=
  congrArg v (funext fun a => Fin.ext (by
    match a with
    | 0 => rfl
    | 1 => exact Nat.zero_add _))

/-- What the tournament holds for token `j` when `k` rows are left: row `r` holds, of the experts whose number is `r` modulo
    `k`, the first that is the largest, its value and its number. -/
def Held (k : ℕ) (L : Fin 64 → EReal) (v : FVec Ideal (Rows k) .f32) (ix : IVec (Rows k) 32) (j : Fin 1024) : Prop :=
  ∀ r : Fin k, ∃ e : Fin 64, e.val % k = r.val ∧ v (ix2 r j) = L e ∧ ix (ix2 r j) = BitVec.ofNat 32 e.val
    ∧ ∀ a : Fin 64, a.val % k = r.val → L a ≤ L e ∧ (L a = L e → e ≤ a)

/-- The smaller of two experts' numbers, as words. -/
theorem minsi_experts (a b : Fin 64) : IntOp.minsi (BitVec.ofNat 32 a.val) (BitVec.ofNat 32 b.val) = BitVec.ofNat 32 (min a b).val := by
  revert a b; decide +kernel

include hn in
/-- One level: from `k + k` rows to `k`. -/
theorem Held.level {L : Fin 64 → EReal} {v : FVec Ideal (Rows n) .f32} {ix : IVec (Rows n) 32} {j : Fin 1024} (h : Held n L v ix j) :
    Held k L (winner lo hi v) (winnerIx lo hi v ix) j := by
  intro r
  have split : ∀ a : Fin 64, a.val % k = r.val ↔ a.val % n = r.val ∨ a.val % n = k + r.val := by
    intro a
    have hr := r.isLt
    have e : a.val % n = a.val % k + k * (a.val / k % 2) := by rw [hn, ← two_mul, Nat.mul_comm 2 k, Nat.mod_mul]
    have hk : a.val % k < k := Nat.mod_lt _ (by omega)
    rcases Nat.mod_two_eq_zero_or_one (a.val / k) with h2 | h2 <;> rw [h2] at e <;> omega
  obtain ⟨p, hp, vp, ip, mp⟩ := h ⟨r.val, by omega⟩
  obtain ⟨q, hq, vq, iq, mq⟩ := h ⟨k + r.val, by omega⟩
  have hv : winner lo hi v (ix2 r j) = if L p < L q then L q else L p := by
    show Scalar.select (FloatOps.cmpf .ogt (aft hi v (ix2 r j)) (fore lo v (ix2 r j))) (aft hi v (ix2 r j)) (fore lo v (ix2 r j)) = _
    rw [fore_at hn, aft_at hn, vp, vq]
    by_cases hlt : L p < L q <;> simp [Ideal.cmpf_def, Ideal.cmp, Scalar.select, hlt]
  have hix : winnerIx lo hi v ix (ix2 r j)
      = if L q = L p then BitVec.ofNat 32 (min p q).val else if L p < L q then BitVec.ofNat 32 q.val else BitVec.ofNat 32 p.val := by
    show Scalar.select (FloatOps.cmpf .oeq (aft hi v (ix2 r j)) (fore lo v (ix2 r j))) (IntOp.minsi (fore lo ix (ix2 r j)) (aft hi ix (ix2 r j)))
      (Scalar.select (FloatOps.cmpf .ogt (aft hi v (ix2 r j)) (fore lo v (ix2 r j))) (aft hi ix (ix2 r j)) (fore lo ix (ix2 r j))) = _
    rw [fore_at hn, aft_at hn, fore_at hn, aft_at hn, vp, vq, ip, iq, minsi_experts]
    by_cases he : L q = L p <;> by_cases hlt : L p < L q <;> simp [Ideal.cmpf_def, Ideal.cmp, Scalar.select, hlt, he]
  rw [hv, hix]
  rcases lt_trichotomy (L p) (L q) with hlt | heq | hgt
  · refine ⟨q, (split q).2 (Or.inr hq), if_pos hlt, by rw [if_neg hlt.ne', if_pos hlt], fun a ha => ?_⟩
    rcases (split a).1 ha with ha | ha
    · exact ⟨(mp a ha).1.trans hlt.le, fun he => absurd (he ▸ (mp a ha).1) (not_le.2 hlt)⟩
    · exact mq a ha
  · refine ⟨min p q, ?_, ?_, by rw [if_pos heq.symm], fun a ha => ?_⟩
    · rcases min_choice p q with hm | hm <;> rw [hm]
      · exact (split p).2 (Or.inl hp)
      · exact (split q).2 (Or.inr hq)
    · rw [if_neg heq.not_lt]
      rcases min_choice p q with hm | hm <;> rw [hm]
      exact heq
    · have hm : L (min p q) = L p := by
        rcases min_choice p q with hm | hm <;> rw [hm]
        exact heq.symm
      rw [hm]
      rcases (split a).1 ha with ha | ha
      · exact ⟨(mp a ha).1, fun he => (min_le_left _ _).trans ((mp a ha).2 he)⟩
      · exact ⟨heq ▸ (mq a ha).1, fun he => (min_le_right _ _).trans ((mq a ha).2 (he.trans heq))⟩
  · refine ⟨p, (split p).2 (Or.inl hp), if_neg hgt.not_gt, by rw [if_neg hgt.ne, if_neg hgt.not_gt], fun a ha => ?_⟩
    rcases (split a).1 ha with ha | ha
    · exact mp a ha
    · exact ⟨(mq a ha).1.trans hgt.le, fun he => absurd (he ▸ (mq a ha).1) (not_le.2 hgt)⟩

include hn in
/-- One level of the sum keeps the sum over the rows. -/
theorem pairSum_sum (v : FVec Ideal (Rows n) .f32) (j : Fin 1024) :
    ∑ r : Fin k, pairSum lo hi v (ix2 r j) = ∑ r : Fin n, v (ix2 r j) := by
  have e : ∀ r : Fin k, pairSum lo hi v (ix2 r j) = v (ix2 ⟨r.val, by omega⟩ j) + v (ix2 ⟨k + r.val, by omega⟩ j) := fun r => by
    show fore lo v (ix2 r j) + aft hi v (ix2 r j) = _
    rw [fore_at hn, aft_at hn]
  simp only [e, Finset.sum_add_distrib]
  subst hn
  rw [Fin.sum_univ_add]
  rfl

end Level

variable (l : FVec Ideal S64x1024 .f32) (j : Fin 1024)

/-- Before the first level every expert is its own row's. -/
theorem held_start : Held 64 (fun e => l (ix2 e j)) l who64 j := by
  intro r
  refine ⟨r, Nat.mod_eq_of_lt r.isLt, rfl, ?_, fun a ha => ?_⟩
  · unfold who64
    pointwise
  · obtain rfl : a = r := Fin.ext (by rw [← ha, Nat.mod_eq_of_lt a.isLt])
    exact ⟨le_rfl, fun _ => le_rfl⟩

/-- After the last level the one row holds the first expert whose logit is the largest. -/
theorem held_end : Held 1 (fun e => l (ix2 e j)) (best1 l) (who1 l) j := by
  unfold best1 who1
  exact (((((held_start l j).level rfl _ _).level rfl _ _).level rfl _ _).level rfl _ _).level rfl _ _ |>.level rfl _ _

/-- The leader: its logit is the tournament's value, its number the tournament's number. -/
theorem leader : ∃ e : Fin 64, First (fun e => l (ix2 e j)) e ∧ best1 l (ix2 0 j) = l (ix2 e j) ∧ who1 l (ix2 0 j) = BitVec.ofNat 32 e.val := by
  obtain ⟨e, -, hv, hi, hm⟩ := held_end l j 0
  exact ⟨e, fun a => hm a (Nat.mod_one _), hv, hi⟩

/-- The folded sum is the sum over the experts. -/
theorem total_at : total l (ix2 0 j) = ∑ e : Fin 64, l (ix2 e j) := by
  rw [← pairSum_sum (k := 32) rfl slices_S64x1024_o0_0_S32x1024 slices_S64x1024_o32_0_S32x1024,
    ← pairSum_sum (k := 16) rfl slices_S32x1024_o0_0_S16x1024 slices_S32x1024_o16_0_S16x1024,
    ← pairSum_sum (k := 8) rfl slices_S16x1024_o0_0_S8x1024 slices_S16x1024_o8_0_S8x1024,
    ← pairSum_sum (k := 4) rfl slices_S8x1024_o0_0_S4x1024 slices_S8x1024_o4_0_S4x1024,
    ← pairSum_sum (k := 2) rfl slices_S4x1024_o0_0_S2x1024 slices_S4x1024_o2_0_S2x1024,
    ← pairSum_sum (k := 1) rfl slices_S2x1024_o0_0_S1x1024 slices_S2x1024_o1_0_S1x1024, Fin.sum_univ_one]
  rfl

/-- A chunk's routing weight at a token: one over the sum of the exponentials less the leader's logit. -/
theorem weightOf_at : weightOf l (ix1 j) = Ideal.div 1 (∑ e : Fin 64, Ideal.exp (l (ix2 e j) - best1 l (ix2 0 j))) := by
  unfold weightOf
  pointwise
  rw [total_at]
  refine congrArg (Ideal.div 1) (Finset.sum_congr rfl fun e _ => ?_)
  unfold expo
  pointwise

/-- A chunk's expert at a token. -/
theorem expertOf_at : expertOf l (ix1 j) = who1 l (ix2 0 j) := by
  unfold expertOf
  pointwise

/-- A chunk's logit. -/
theorem logitsOf_at (w : FVec Ideal S64x4096 .f32) (x : FVec Ideal S1024x4096 .f32) (e : Fin 64) :
    logitsOf w x (ix2 e j) = ∑ k : Fin 4096, w (ix2 e k) * x (ix2 j k) := by
  unfold logitsOf
  pointwise

end Cert.KernelIdeal.Router

end
-- ==== Proof.Choice.lean ====
/- The reference's index reduction at the ideal instance: folding its step over a token's 64 probabilities leaves the first
   expert whose probability is the largest. -/
module

public import proofs.«01_k».proof.Proof.Reference
public import proofs.«01_k».proof.Proof.Leader
public import Idealize.ShloMosaic.Lib.Pointwise
public import Idealize.ShloMosaic.PureOps.Ideal.Laws

@[expose] public section

noncomputable section

namespace Cert.ReferenceIdeal.Router

open Idealize.ShloMosaic Cert.ReferenceIdeal Cert.ReferenceIdeal.Gen Cert.Leader

/-- An expert as the reduction carries it: its value and its number. -/
def card (p : Fin 64 → EReal) (e : Fin 64) : Ideal .f32 × BitVec 32 := (p e, BitVec.ofNat 32 e.val)

/-- Experts' numbers compare, as signed words, as the numbers do. -/
theorem slt_experts (a b : Fin 64) : IntOp.cmpi .slt (BitVec.ofNat 32 a.val) (BitVec.ofNat 32 b.val) = BitVec.ofBool (decide (a < b)) := by
  revert a b; decide +kernel

/-- The step on two experts keeps the one of the larger value, of equal values the one of the smaller number. -/
theorem step_card (p : Fin 64 → EReal) (a b : Fin 64) :
    reducer_argmax_f32_i32 (F := Ideal) (card p a) (card p b) = if p b < p a ∨ (p a = p b ∧ a < b) then card p a else card p b := by
  unfold reducer_argmax_f32_i32 card
  simp only [slt_experts, Ideal.cmpf_def, Ideal.cmp]
  by_cases hlt : p b < p a
  · simp only [hlt, hlt.ne', IntOp.ori, IntOp.andi, Scalar.select]
    simp
  · by_cases heq : p a = p b <;> by_cases hab : a < b <;> simp [hlt, heq, hab, IntOp.ori, IntOp.andi, Scalar.select]

/-- The step from the start value keeps the expert, whose value is above −∞. -/
theorem step_start (p : Fin 64 → EReal) (b : Fin 64) (hb : p b ≠ ⊥) : reducer_argmax_f32_i32 (F := Ideal) ((⊥ : EReal), 0#32) (card p b) = card p b := by
  unfold reducer_argmax_f32_i32 card
  simp only [Ideal.cmpf_def, Ideal.cmp]
  simp [hb.symm, IntOp.ori, IntOp.andi, Scalar.select]

/-- Folding the step from an expert over a list of experts leaves one of them that none of them beats. -/
theorem fold_card (p : Fin 64 → EReal) (es : List (Fin 64)) (a : Fin 64) :
    ∃ e, (es.map (card p)).foldl (reducer_argmax_f32_i32 (F := Ideal)) (card p a) = card p e
      ∧ ∀ c, c = a ∨ c ∈ es → p c ≤ p e ∧ (p c = p e → e ≤ c) := by
  induction es generalizing a with
  | nil => exact ⟨a, rfl, fun c hc => by
      obtain rfl : c = a := by simpa using hc
      exact ⟨le_rfl, fun _ => le_rfl⟩⟩
  | cons b es ih =>
    rw [List.map_cons, List.foldl_cons, step_card]
    by_cases h : p b < p a ∨ (p a = p b ∧ a < b)
    · rw [if_pos h]
      obtain ⟨e, he, hm⟩ := ih a
      refine ⟨e, he, fun c hc => ?_⟩
      have ha := hm a (Or.inl rfl)
      rcases hc with rfl | hc
      · exact ha
      · rcases List.mem_cons.1 hc with rfl | hc
        · rcases h with h | ⟨h, hlt⟩
          · exact ⟨h.le.trans ha.1, fun q => absurd (q ▸ ha.1) (not_le.2 h)⟩
          · exact ⟨h ▸ ha.1, fun q => (ha.2 (h.trans q)).trans hlt.le⟩
        · exact hm c (Or.inr hc)
    · rw [if_neg h]
      obtain ⟨e, he, hm⟩ := ih b
      refine ⟨e, he, fun c hc => ?_⟩
      have hb := hm b (Or.inl rfl)
      rcases hc with rfl | hc
      · push Not at h
        refine ⟨h.1.trans hb.1, fun q => ?_⟩
        have e1 : p c = p b := le_antisymm h.1 (q ▸ hb.1)
        exact (hb.2 (e1.symm.trans q)).trans (h.2 e1)
      · rcases List.mem_cons.1 hc with rfl | hc
        · exact hb
        · exact hm c (Or.inr hc)

/-- From the start value, over a list that names every expert: the first expert whose value is the largest. -/
theorem fold_all (p : Fin 64 → EReal) (hp : ∀ e, p e ≠ ⊥) (es : List (Fin 64)) (hes : ∀ e, e ∈ es) :
    ∃ e, (es.map (card p)).foldl (reducer_argmax_f32_i32 (F := Ideal)) ((⊥ : EReal), 0#32) = card p e ∧ First p e := by
  match es, hes with
  | [], hes => exact absurd (hes 0) (List.not_mem_nil)
  | a :: es, hes =>
    rw [List.map_cons, List.foldl_cons, step_start p a (hp a)]
    obtain ⟨e, he, hm⟩ := fold_card p es a
    exact ⟨e, he, fun c => hm c (List.mem_cons.1 (hes c))⟩

/-- The word 0xFF800000 is −∞. -/
theorem lowest : Ideal.ofBits .f32 0xFF800000#32 = ⊥ := by
  simp [Ideal.ofBits, Ideal.ieee]

/-- An expert's place in the array of probabilities lies over the token it is of. -/
theorem drop_iff (i : S16384x64.Idx) (t : Fin 16384) : reducesTo_S16384x64_S16384_d1.drop i = ix1 t ↔ i = ix2 t (i 1) := by
  have hv : (reducesTo_S16384x64_S16384_d1.drop i 0 : Nat) = i 0 := Shape.ReducesTo.drop_apply_val_of_eq reducesTo_S16384x64_S16384_d1 i 0 0
  constructor
  · intro h
    rw [h] at hv
    funext a
    match a with
    | 0 => exact Fin.ext hv.symm
    | 1 => rfl
  · intro h
    funext a
    match a with
    | 0 => exact Fin.ext (hv.trans (congrArg Fin.val (congrFun h 0)))

/-- The expert whose value the `n`-th element of the array is. -/
def expertAt (n : Fin S16384x64.numel) : Fin 64 := (S16384x64.rowMajor.symm n) 1

/-- The experts of token `t` in the order the reduction takes them. -/
def expertsOf (t : Fin 16384) : List (Fin 64) :=
  ((List.finRange S16384x64.numel).filter fun n => reducesTo_S16384x64_S16384_d1.drop (S16384x64.rowMajor.symm n) = ix1 t).map expertAt

/-- Every expert is among them. -/
theorem mem_expertsOf (t : Fin 16384) (e : Fin 64) : e ∈ expertsOf t := by
  refine List.mem_map.2 ⟨S16384x64.rowMajor (ix2 t e), List.mem_filter.2 ⟨List.mem_finRange _, ?_⟩, ?_⟩
  · rw [Equiv.symm_apply_apply]
    exact decide_eq_true ((drop_iff _ t).2 rfl)
  · unfold expertAt
    rw [Equiv.symm_apply_apply]
    rfl

/-- What the reduction folds over for token `t`. -/
theorem fiber_eq (p : FVec Ideal S16384x64 .f32) (t : Fin 16384) :
    Host.argReduceFiber p (iotaInDim S16384x64 32 1) reducesTo_S16384x64_S16384_d1 (ix1 t) = (expertsOf t).map (card fun e => p (ix2 t e)) := by
  unfold Host.argReduceFiber expertsOf
  rw [List.map_map]
  refine List.map_congr_left fun n hn => ?_
  have h := (drop_iff _ t).1 (of_decide_eq_true (List.mem_filter.1 hn).2)
  exact Prod.ext (congrArg p h) rfl

/-- The expert picked for a token: the first whose probability is the largest. -/
theorem pick_at (p : FVec Ideal S16384x64 .f32) (t : Fin 16384) (hp : ∀ e, p (ix2 t e) ≠ (⊥ : EReal)) :
    ∃ e : Fin 64, pick p (ix1 t) = BitVec.ofNat 32 e.val ∧ First (fun e => p (ix2 t e)) e := by
  obtain ⟨e, he, hf⟩ := fold_all (fun e => p (ix2 t e)) hp (expertsOf t) (mem_expertsOf t)
  refine ⟨e, ?_, hf⟩
  unfold pick
  rw [Ideal.argReduce_eq_reduce2, Host.reduce2_eq_foldl_fiber, fiber_eq]
  have hs : (constant S_ .f32 0xFF800000#32 : FVec Ideal S_ .f32) (Shape.Idx.first h_S_) = (⊥ : EReal) := lowest
  rw [hs]
  exact congrArg Prod.snd he

end Cert.ReferenceIdeal.Router

end
-- ==== Proof.Softmax.lean ====
/- The reference's softmax at the ideal instance, read at a token and an expert, for real logits. -/
module

public import proofs.«01_k».proof.Proof.Choice

@[expose] public section

noncomputable section

namespace Cert.ReferenceIdeal.Router

open Idealize.ShloMosaic Cert.ReferenceIdeal Cert.ReferenceIdeal.Gen Cert.Leader

/-- A logit of the reference. -/
theorem logits_at (x : FVec Ideal S16384x4096 .f32) (w : FVec Ideal S64x4096 .f32) (t : Fin 16384) (e : Fin 64) :
    logits x w (ix2 t e) = ∑ k : Fin 4096, x (ix2 t k) * w (ix2 e k) := by
  unfold logits
  pointwise

/-- A token's largest value. -/
theorem rowMax_at (l : FVec Ideal S16384x64 .f32) (t : Fin 16384) :
    rowMax l (ix1 t) = Finset.univ.fold max (⊥ : EReal) (fun e : Fin 64 => l (ix2 t e)) := by
  rw [← lowest]
  unfold rowMax
  pointwise

/-- A token's value set against an expert. -/
theorem spread_at (v : FVec Ideal S16384 .f32) (t : Fin 16384) (e : Fin 64) : spread v (ix2 t e) = v (ix1 t) := by
  unfold spread
  pointwise

theorem shifted_at (l : FVec Ideal S16384x64 .f32) (t : Fin 16384) (e : Fin 64) :
    shifted l (ix2 t e) = (l (ix2 t e) : EReal) - rowMax l (ix1 t) := by
  rw [← spread_at (rowMax l) t e]; rfl

theorem expos_at (s : FVec Ideal S16384x64 .f32) (t : Fin 16384) (e : Fin 64) :
    expos s (ix2 t e) = Ideal.exp ((s (ix2 t e) : EReal) - max ⊥ (rowMax s (ix1 t) : EReal)) := by
  have h : expos s (ix2 t e) = Ideal.exp ((s (ix2 t e) : EReal)
      - spread (maximumf (broadcastInDim S16384 ![] bcast_S_S16384 (constant S_ .f32 0xFF800000#32)) (rowMax s)) (ix2 t e)) := rfl
  rw [h, spread_at, ← lowest]
  rfl

/-- The sum over a token's experts. -/
theorem rowSum_at (s : FVec Ideal S16384x64 .f32) (t : Fin 16384) :
    Host.reduceAdd s (constant S_ .f32 0x00000000#32) reducesTo_S16384x64_S16384_d1 h_S_ (ix1 t) = ∑ e : Fin 64, s (ix2 t e) := by
  pointwise

/-- A quotient of arrays at an index. -/
theorem quotient_at (a b : FVec Ideal S16384x64 .f32) (i : S16384x64.Idx) : Host.divf a b i = Ideal.div (a i) (b i) := rfl

variable {l : FVec Ideal S16384x64 .f32} {t : Fin 16384} {r : Fin 64 → ℝ} {e : Fin 64}

/-- The exponential of a token whose logits are real, `e` the first of the largest: the second subtraction takes off zero. -/
theorem expos_real (hr : ∀ a, l (ix2 t a) = (r a : EReal)) (he : First (fun a => (r a : EReal)) e) (a : Fin 64) :
    expos (shifted l) (ix2 t a) = Ideal.exp ((r a : EReal) - (r e : EReal)) := by
  have hmax : rowMax l (ix1 t) = (r e : EReal) := by
    rw [rowMax_at]; simp only [hr]; exact fold_max fun a => (he a).1
  have hzero : rowMax (shifted l) (ix1 t) = ((0 : ℝ) : EReal) := by
    rw [rowMax_at]
    simp only [shifted_at, hmax, hr]
    rw [fold_max (p := fun a => (r a : EReal) - (r e : EReal)) (e := e) fun a => EReal.sub_le_sub (he a).1 le_rfl, ← EReal.coe_sub, sub_self]
  rw [expos_at, hzero, shifted_at, hmax, hr, max_eq_right bot_le, EReal.coe_zero, sub_zero]

/-- So its probabilities are the softmax of its logits less the largest. -/
theorem probs_real (hr : ∀ a, l (ix2 t a) = (r a : EReal)) (he : First (fun a => (r a : EReal)) e) (a : Fin 64) :
    probs l (ix2 t a) = prob (fun a => (r a : EReal)) e a := by
  unfold probs
  rw [quotient_at, spread_at, rowSum_at, expos_real hr he]
  simp only [expos_real hr he]
  rfl

/-- Its largest probability is one over the sum of the exponentials. -/
theorem weight_real (hr : ∀ a, l (ix2 t a) = (r a : EReal)) (he : First (fun a => (r a : EReal)) e) :
    rowMax (probs l) (ix1 t) = Ideal.div 1 (∑ b, Ideal.exp ((r b : EReal) - (r e : EReal))) := by
  rw [rowMax_at]
  simp only [probs_real hr he]
  rw [fold_max fun a => (prob_order r e a e).1 (he a).1, prob_self]

/-- The expert picked by probability is the first whose logit is the largest. -/
theorem pick_real (hr : ∀ a, l (ix2 t a) = (r a : EReal)) (he : First (fun a => (r a : EReal)) e) :
    pick (probs l) (ix1 t) = BitVec.ofNat 32 e.val := by
  obtain ⟨b, hb, hf⟩ := pick_at (probs l) t fun a => by rw [probs_real hr he]; exact prob_ne_bot r e a
  simp only [probs_real hr he] at hf
  rw [hb, (hf.of_order fun a c => (prob_order r e a c).symm).unique he]

end Cert.ReferenceIdeal.Router

end
-- ==== Proof.Match.lean ====
/- The kernel's two results are the reference's, on finite arguments, at the ideal instance. -/
module

public import proofs.«01_k».proof.Proof.Tournament
public import proofs.«01_k».proof.Proof.Softmax
public import proofs.«01_k».proof.Pre_finite

@[expose] public section

noncomputable section

namespace Cert.Match

open Idealize.ShloMosaic Cert.Leader

/-- The shapes of the precondition's arrays broadcast as it states. -/
instance preFacts : Cert.Pre_finite.Facts := ⟨by decide, by decide⟩

/-- The word 0x7F800000 is +∞. -/
theorem highest : Ideal.ofBits .f32 0x7F800000#32 = ⊤ := by
  simp [Ideal.ofBits, Ideal.ieee]

/-- A value whose size is below +∞ is a real number. -/
theorem real_of_below {a : EReal} (h : Ideal.cmp .olt (max a (-a)) ⊤ = 1#1) : ∃ r : ℝ, a = (r : EReal) := by
  have hlt : max a (-a) < ⊤ := by
    by_contra hn
    simp [Ideal.cmp, hn] at h
  induction a using EReal.rec with
  | bot => simp at hlt
  | top => simp at hlt
  | coe r => exact ⟨r, rfl⟩

/-- A sum of products of reals is a real. -/
theorem real_sum {n : ℕ} {a b : Fin n → EReal} (ha : ∀ k, ∃ r : ℝ, a k = (r : EReal)) (hb : ∀ k, ∃ r : ℝ, b k = (r : EReal)) :
    ∃ r : ℝ, ∑ k, a k * b k = (r : EReal) := by
  choose ra hra using ha
  choose rb hrb using hb
  exact ⟨∑ k, ra k * rb k, by rw [coe_sum]; exact Finset.sum_congr rfl fun k _ => by rw [hra, hrb, EReal.coe_mul]⟩

section

variable (x : FVec Ideal Cert.ReferenceIdeal.S16384x4096 .f32) (w : FVec Ideal Cert.ReferenceIdeal.S64x4096 .f32)

/-- What the precondition says of the two arguments: every entry is a real number. -/
theorem finite_iff (h : (Cert.Pre_finite.fn (F := Ideal) x w).1 = (fun _ => 1#1) ∧ (Cert.Pre_finite.fn (F := Ideal) x w).2 = (fun _ => 1#1)) :
    (∀ i, ∃ r : ℝ, x i = (r : EReal)) ∧ ∀ i, ∃ r : ℝ, w i = (r : EReal) := by
  refine ⟨fun i => real_of_below ?_, fun i => real_of_below ?_⟩
  · rw [← highest]; exact congrFun h.1 i
  · rw [← highest]; exact congrFun h.2 i

/-- A token is place `t % 1024` of chunk `t / 1024`. -/
theorem token_split (t : Fin 16384) :
    Cert.KernelIdeal.Router.tokenIx (Cert.KernelIdeal.Router.chunkNo (ix1 t)) ⟨t.val % 1024, Nat.mod_lt _ (by decide)⟩ = t :=
  Fin.ext (Nat.div_add_mod t.val 1024)

theorem place_eq (t : Fin 16384) : Cert.KernelIdeal.Router.place (ix1 t) = ix1 ⟨t.val % 1024, Nat.mod_lt _ (by decide)⟩ :=
  funext fun a => by
    match a with
    | 0 => rfl

/-- The kernel's logit of an expert at a token's place of its chunk is the reference's logit of the token. -/
theorem logits_eq (t : Fin 16384) (e : Fin 64) :
    Cert.KernelIdeal.Router.logitsOf w (Cert.KernelIdeal.Router.chunk x (Cert.KernelIdeal.Router.chunkNo (ix1 t)))
      (ix2 e ⟨t.val % 1024, Nat.mod_lt _ (by decide)⟩) = Cert.ReferenceIdeal.Router.logits x w (ix2 t e) := by
  rw [Cert.KernelIdeal.Router.logitsOf_at, Cert.ReferenceIdeal.Router.logits_at]
  refine Finset.sum_congr rfl fun k _ => (mul_comm _ _).trans (congrArg (· * w (ix2 e k)) ?_)
  exact congrArg x (funext fun a => by
    match a with
    | 0 => exact token_split t
    | 1 => rfl)

/-- An index of a row of tokens is a token. -/
theorem ix_token (t : Cert.ReferenceIdeal.S16384.Idx) : t = ix1 (t 0) :=
  funext fun a => by
    match a with
    | 0 => rfl

variable {x w} (hx : ∀ i, ∃ r : ℝ, x i = (r : EReal)) (hw : ∀ i, ∃ r : ℝ, w i = (r : EReal))

include hx hw

/-- At every token both programs give the same weight and the same expert. -/
theorem token_eq (t : Fin 16384) :
    Cert.KernelIdeal.Router.outWeight (F := Ideal) w x (ix1 t) = Cert.ReferenceIdeal.Router.rowMax (Cert.ReferenceIdeal.Router.probs (Cert.ReferenceIdeal.Router.logits x w)) (ix1 t)
    ∧ Cert.KernelIdeal.Router.outExpert (F := Ideal) w x (ix1 t) = Cert.ReferenceIdeal.Router.pick (Cert.ReferenceIdeal.Router.probs (Cert.ReferenceIdeal.Router.logits x w)) (ix1 t) := by
  have hreal : ∀ e : Fin 64, ∃ r : ℝ, Cert.ReferenceIdeal.Router.logits x w (ix2 t e) = (r : EReal) := fun e => by
    rw [Cert.ReferenceIdeal.Router.logits_at]
    exact real_sum (fun k => hx (ix2 t k)) (fun k => hw (ix2 e k))
  choose r hr using hreal
  obtain ⟨e, hf, hv, hi⟩ := Cert.KernelIdeal.Router.leader
    (Cert.KernelIdeal.Router.logitsOf w (Cert.KernelIdeal.Router.chunk x (Cert.KernelIdeal.Router.chunkNo (ix1 t)))) ⟨t.val % 1024, Nat.mod_lt _ (by decide)⟩
  simp only [logits_eq, hr] at hf hv
  constructor
  · unfold Cert.KernelIdeal.Router.outWeight
    rw [place_eq, Cert.KernelIdeal.Router.weightOf_at, hv, Cert.ReferenceIdeal.Router.weight_real hr hf]
    simp only [logits_eq, hr]
  · unfold Cert.KernelIdeal.Router.outExpert
    rw [place_eq, Cert.KernelIdeal.Router.expertOf_at, hi, Cert.ReferenceIdeal.Router.pick_real hr hf]

/-- The first results are equal. -/
theorem weight_eq : Cert.KernelIdeal.Router.outWeight (F := Ideal) w x = Cert.ReferenceIdeal.Router.rowMax (Cert.ReferenceIdeal.Router.probs (Cert.ReferenceIdeal.Router.logits x w)) :=
  funext fun t => by rw [ix_token t]; exact (token_eq hx hw (t 0)).1

/-- The second results are equal. -/
theorem expert_eq : Cert.KernelIdeal.Router.outExpert (F := Ideal) w x = Cert.ReferenceIdeal.Router.pick (Cert.ReferenceIdeal.Router.probs (Cert.ReferenceIdeal.Router.logits x w)) :=
  funext fun t => by rw [ix_token t]; exact (token_eq hx hw (t 0)).2

end

end Cert.Match

end
-- ==== Proof.lean ====
/- The proof of the certificate's claim: each program runs, leaves its arguments unchanged and its counters at zero, and on finite
   arguments the kernel's two results are the reference's, as extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Same
public import proofs.«01_k».proof.Proof.Reference
public import proofs.«01_k».proof.Proof.Match
public import Idealize.ShloMosaic.Adequacy
public import Idealize.ShloMosaic.Init
public import Idealize.ShloMosaic.Lib.Quiescent

@[expose] public section

noncomputable section

namespace Cert.Proof

open Idealize.ShloMosaic Idealize.SL.Sem

/-- The kernel read at the ideal instance runs, its arguments unchanged, every counter zero at the end. -/
theorem kernelIdeal_quiescent : Cert.quiescent_KernelIdeal :=
  fun m g _ => (θ_run _ _ _).mono (fun _ h => ⟨fun c => (h.1 c).2.2, h.2⟩) (Cert.KernelIdeal.Router.computed (F := Ideal) m g)

/-- The reference runs, its arguments unchanged, every counter zero at the end. -/
theorem referenceIdeal_quiescent : Cert.quiescent_ReferenceIdeal :=
  fun m g _ => (θ_run _ _ _).mono (fun r h => ⟨fun c => (h c).2.2, sem_eq_zero_of_no_sems rfl r.2⟩) (Cert.ReferenceIdeal.Router.ran (F := Ideal) m g)

/-- On finite arguments the kernel's results are the reference's. -/
theorem results_equal : Cert.algebraic_KernelIdeal_ReferenceIdeal_pre_finite := by
  intro m g m1 g1 hpre hagree
  refine ⟨fun c => Cert.KernelIdeal.Router.outWeight (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    fun c => Cert.KernelIdeal.Router.outExpert (F := Ideal) (m ((c.tc : Thread Cert.KernelIdeal.nD Cert.KernelIdeal.τ).loc Cert.KernelIdeal.main_arg1))
      (m ((c.tc : Thread Cert.KernelIdeal.nD Cert.KernelIdeal.τ).loc Cert.KernelIdeal.main_arg0)), ?_, ?_⟩
  · exact (θ_run _ _ _).mono (fun _ h => h.1) (Cert.KernelIdeal.Router.computed (F := Ideal) m g)
  · refine (θ_run _ _ _).mono (fun r h c => ?_) (Cert.ReferenceIdeal.Router.ran (F := Ideal) m1 g1)
    obtain ⟨h0, h1, h2⟩ := h c
    obtain ⟨hx, hw⟩ := Cert.Match.finite_iff _ _ (hpre c)
    refine ⟨h0.trans ?_, h1.trans ?_, h2⟩
    · rw [(hagree c).1, (hagree c).2]
      exact (Cert.Match.weight_eq hx hw).symm
    · rw [(hagree c).1, (hagree c).2]
      exact (Cert.Match.expert_eq hx hw).symm

/-- The certificate's claim. -/
theorem claim : Cert.Claim :=
  ⟨Cert.Kernel.Gen.facts, Cert.KernelIdeal.Gen.facts, Cert.ReferenceIdeal.Gen.facts, Cert.Match.preFacts,
    fun m g _ => Cert.Kernel.Router.quiescent (F := Bits) m g,
    kernelIdeal_quiescent, fun m g _ => kernelIdeal_quiescent m g trivial,
    referenceIdeal_quiescent, fun m g _ => referenceIdeal_quiescent m g trivial,
    trivial, results_equal⟩

end Cert.Proof

end
